-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_row_finite [hPre_first_row_finite : Cert.Pre_first_row_finite.Facts] (m : (ℓ : Loc Cert.KernelIdeal.nD Cert.KernelIdeal.τ Cert.KernelIdeal.sig) → Buf (Elt Ideal) ℓ) : Prop :=
  ∀ c : Dev Cert.KernelIdeal.nD,
    (Cert.Pre_first_row_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_row_finite [hPre_first_row_finite : Cert.Pre_first_row_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_row_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_first_row_finite [hKernelIdeal : Cert.KernelIdeal.Facts] [hPre_first_row_finite : Cert.Pre_first_row_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_row_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_first_row_finite [hReferenceIdeal : Cert.ReferenceIdeal.Facts] [hPre_first_row_finite : Cert.Pre_first_row_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_row_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_first_row_finite [hKernelIdeal : Cert.KernelIdeal.Facts] [hReferenceIdeal : Cert.ReferenceIdeal.Facts] [hPre_first_row_finite : Cert.Pre_first_row_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_row_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_first_row_finite : Cert.Pre_first_row_finite.Facts),
    quiescent_Kernel (hKernel := hKernel)
    ∧ quiescent_KernelIdeal (hKernelIdeal := hKernelIdeal)
    ∧ quiescent_KernelIdeal_pre_first_row_finite (hKernelIdeal := hKernelIdeal) (hPre_first_row_finite := hPre_first_row_finite)
    ∧ quiescent_ReferenceIdeal (hReferenceIdeal := hReferenceIdeal)
    ∧ quiescent_ReferenceIdeal_pre_first_row_finite (hReferenceIdeal := hReferenceIdeal) (hPre_first_row_finite := hPre_first_row_finite)
    ∧ preserves_Kernel_KernelIdeal
    ∧ algebraic_KernelIdeal_ReferenceIdeal_pre_first_row_finite (hKernelIdeal := hKernelIdeal) (hReferenceIdeal := hReferenceIdeal) (hPre_first_row_finite := hPre_first_row_finite)
-- ==== Pre_first_row_finite.lean ====
abbrev S8x256x256 : Shape := ⟨3, ![8, 256, 256]⟩
abbrev S13x128 : Shape := ⟨2, ![13, 128]⟩
abbrev S1x128 : Shape := ⟨2, ![1, 128]⟩
abbrev S128 : Shape := ⟨1, ![128]⟩
abbrev S_ : Shape := ⟨0, ![]⟩

class Facts : Prop where
  slices_S13x128_S1x128_0_0 : S13x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : IVec S8x256x256 32) (main_arg1 : FVec F S13x128 .f32) : IVec S_ 1 :=
  let main_v0 : FVec F S1x128 .f32 := (extractStridedSlice S1x128 ![0, 0] · slices_S13x128_S1x128_0_0) main_arg1
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_c : IVec S_ 1 := constantI S_ 1 1#1
  let main_v5 : IVec S_ 1 := (fun x v => Host.reduce IntOp.andi x v reducesTo_S128_S_d0 h_S_) main_v4 main_c
  main_v5
-- ==== Kernel.lean ====
abbrev S8x256x256 : Shape := ⟨3, ![8, 256, 256]⟩
abbrev S13x128 : Shape := ⟨2, ![13, 128]⟩
abbrev S1x128 : Shape := ⟨2, ![1, 128]⟩
abbrev S12x128 : Shape := ⟨2, ![12, 128]⟩
abbrev S128x13 : Shape := ⟨2, ![128, 13]⟩
abbrev S8x128x256x256 : Shape := ⟨4, ![8, 128, 256, 256]⟩
abbrev S1x64x256 : Shape := ⟨3, ![1, 64, 256]⟩
abbrev S1x128x64x256 : Shape := ⟨4, ![1, 128, 64, 256]⟩
abbrev S64x256 : Shape := ⟨2, ![64, 256]⟩
abbrev S1x16384 : Shape := ⟨2, ![1, 16384]⟩
abbrev S13x16384 : Shape := ⟨2, ![13, 16384]⟩
abbrev S128x16384 : Shape := ⟨2, ![128, 16384]⟩
abbrev S128x64x256 : Shape := ⟨3, ![128, 64, 256]⟩

abbrev nBuf : Space → Nat
  | .hbm => 9
  | .vmem => 5
  | .smem => 0
  | _ => 0

abbrev bufTy : (tb : Table) → Fin (tcTables nBuf tb) → BufTy
  | .hbm, ⟨0, _⟩ => ⟨S8x256x256, .i32⟩
  | .hbm, ⟨1, _⟩ => ⟨S13x128, .f32⟩
  | .hbm, ⟨2, _⟩ => ⟨S1x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S13x128, .f32⟩
  | .hbm, ⟨7, _⟩ => ⟨S128x13, .f32⟩
  | .hbm, ⟨8, _⟩ => ⟨S8x128x256x256, .f32⟩
  | .local _ .vmem, ⟨0, _⟩ => ⟨S1x64x256, .i32⟩
  | .local _ .vmem, ⟨1, _⟩ => ⟨S1x64x256, .i32⟩
  | .local _ .vmem, ⟨2, _⟩ => ⟨S128x13, .f32⟩
  | .local _ .vmem, ⟨3, _⟩ => ⟨S1x128x64x256, .f32⟩
  | .local _ .vmem, ⟨4, _⟩ => ⟨S1x128x64x256, .f32⟩
  | _, _ => ⟨S8x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x13 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x256x256 : Shape := ⟨3, ![8, 256, 256]⟩
abbrev S13x128 : Shape := ⟨2, ![13, 128]⟩
abbrev S13 : Shape := ⟨1, ![13]⟩
abbrev S8x256x256x1 : Shape := ⟨4, ![8, 256, 256, 1]⟩
abbrev S1x1x1x13 : Shape := ⟨4, ![1, 1, 1, 13]⟩
abbrev S8x256x256x13 : Shape := ⟨4, ![8, 256, 256, 13]⟩
abbrev S_ : Shape := ⟨0, ![]⟩
abbrev S1 : Shape := ⟨1, ![1]⟩
abbrev S1x1x1x1 : Shape := ⟨4, ![1, 1, 1, 1]⟩
abbrev S8x256x256x128 : Shape := ⟨4, ![8, 256, 256, 128]⟩
abbrev S8x128x256x256 : Shape := ⟨4, ![8, 128, 256, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x256x256, .i32⟩
  | .hbm, ⟨1, _⟩ => ⟨S13x128, .f32⟩
  | .hbm, ⟨2, _⟩ => ⟨S13, .i32⟩
  | .hbm, ⟨3, _⟩ => ⟨S8x256x256x1, .i32⟩
  | .hbm, ⟨4, _⟩ => ⟨S1x1x1x13, .i32⟩
  | .hbm, ⟨5, _⟩ => ⟨S8x256x256x13, .i32⟩
  | .hbm, ⟨6, _⟩ => ⟨S8x256x256x13, .i32⟩
  | .hbm, ⟨7, _⟩ => ⟨S8x256x256x13, .i1⟩
  | .hbm, ⟨8, _⟩ => ⟨S8x256x256x13, .i32⟩
  | .hbm, ⟨9, _⟩ => ⟨S8x256x256x13, .i32⟩
  | .hbm, ⟨10, _⟩ => ⟨S_, .i32⟩
  | .hbm, ⟨11, _⟩ => ⟨S_, .i32⟩
  | .hbm, ⟨12, _⟩ => ⟨S8x256x256, .i32⟩
  | .hbm, ⟨13, _⟩ => ⟨S8x256x256, .i32⟩
  | .hbm, ⟨14, _⟩ => ⟨S_, .i32⟩
  | .hbm, ⟨15, _⟩ => ⟨S8x256x256, .i32⟩
  | .hbm, ⟨16, _⟩ => ⟨S8x256x256, .i1⟩
  | .hbm, ⟨17, _⟩ => ⟨S_, .i32⟩
  | .hbm, ⟨18, _⟩ => ⟨S8x256x256, .i32⟩
  | .hbm, ⟨19, _⟩ => ⟨S8x256x256, .i32⟩
  | .hbm, ⟨20, _⟩ => ⟨S8x256x256, .i32⟩
  | .hbm, ⟨21, _⟩ => ⟨S8x256x256x1, .i32⟩
  | .hbm, ⟨22, _⟩ => ⟨S1, .i32⟩
  | .hbm, ⟨23, _⟩ => ⟨S_, .i32⟩
  | .hbm, ⟨24, _⟩ => ⟨S8x256x256x1, .i32⟩
  | .hbm, ⟨25, _⟩ => ⟨S8x256x256x1, .i1⟩
  | .hbm, ⟨26, _⟩ => ⟨S1x1x1x1, .i32⟩
  | .hbm, ⟨27, _⟩ => ⟨S8x256x256x1, .i32⟩
  | .hbm, ⟨28, _⟩ => ⟨S8x256x256x1, .i1⟩
  | .hbm, ⟨29, _⟩ => ⟨S8x256x256x1, .i1⟩
  | .hbm, ⟨30, _⟩ => ⟨S_, .i1⟩
  | .hbm, ⟨31, _⟩ => ⟨S8x256x256, .i1⟩
  | .hbm, ⟨32, _⟩ => ⟨S8x256x256x128, .f32⟩
  | .hbm, ⟨33, _⟩ => ⟨S8x256x256x128, .i1⟩
  | .hbm, ⟨34, _⟩ => ⟨S_, .f32⟩
  | .hbm, ⟨35, _⟩ => ⟨S8x256x256x128, .f32⟩
  | .hbm, ⟨36, _⟩ => ⟨S8x256x256x128, .f32⟩
  | .hbm, ⟨37, _⟩ => ⟨S8x128x256x256, .f32⟩
  | _, _ => ⟨S8x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v7 : Ref sig .tc := ⟨.hbm, 36, rfl⟩
abbrev main_v8 : Ref sig .tc := ⟨.hbm, 37, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise
public import Idealize.ShloMosaic.Lib.Pipeline.Value

@[expose] public section

noncomputable section

namespace Cert.FuelBlock

open Idealize.ShloMosaic Cert.KernelIdeal Cert.KernelIdeal.Gen

/-- The thirteen known codes, in the order of the table's rows. -/
def code : Fin 13 → BitVec 32 := ![0, 1, 2, 3, 4, 7, 13, 31, 101, 425, 635, 650, 665]

/-- The kernel's weight of table row `k` at a cell that holds `v`: row 0 counts always, every other row
    where its code is the cell's. -/
def weight (v : BitVec 32) (k : Fin 13) : EReal := if k = 0 ∨ v = code k then 1 else 0

/-- A list of four zeros is the function that is zero everywhere. -/
theorem zeros4 : (![0, 0, 0, 0] : Fin 4 → Nat) = fun _ => 0 := funext fun a => by fin_cases a <;> rfl
/-- A list of three zeros is the function that is zero everywhere. -/
theorem zeros3 : (![0, 0, 0] : Fin 3 → Nat) = fun _ => 0 := funext fun a => by fin_cases a <;> rfl
/-- A list of two zeros is the function that is zero everywhere. -/
theorem zeros2 : (![0, 0] : Fin 2 → Nat) = fun _ => 0 := funext fun a => by fin_cases a <;> rfl

/-- A comparison's bit, widened and converted, is 1 where the words agree and 0 elsewhere. -/
theorem flag_value (a b : BitVec 32) :
    FloatOps.sitofp (F := Ideal) FTy.f32 (BitVec.setWidth 32 (IntOp.cmpi .eq a b)) = if a = b then (1 : EReal) else 0 := by
  by_cases h : a = b
  · simp [h, IntOp.cmpi, FloatOps.sitofp]
  · have hb : (a == b) = false := beq_eq_false_iff_ne.2 h
    simp [h, hb, IntOp.cmpi, FloatOps.sitofp]

/-- One grid step's tile: entry `(d, r, w)` is the sum over the table's rows of the shifted table's entry
    times that row's weight at the cell. -/
theorem block_apply (x0 : Vec Ideal S1x64x256 .i32) (x1 : Vec Ideal S128x13 .f32)
    (d : Fin 128) (r : Fin 64) (w : Fin 256) :
    out0_2 (F := Ideal) x0 x1 (ix4 0 d r w) = ∑ k : Fin 13, x1 (ix2 d k) * weight (x0 (ix3 0 r w)) k := by
  unfold out0_2
  rw [View.canon_unit_zero zeros4, View.ld_unit_zero zeros3, View.ld_unit_zero zeros2]
  pointwise [k0_pay1, k0_pay2, k0_pay3, k0_pay4, k0_pay5, k0_pay6, k0_pay7, k0_pay8, k0_pay9, k0_pay10, k0_pay11, k0_pay12, k0_pay13]
  refine Finset.sum_congr rfl fun k _ => congrArg (x1 (ix2 d k) * ·) ?_
  simp only [flag_value]
  unfold weight code
  fin_cases k <;> simp

end Cert.FuelBlock
-- ==== Proof.Table.lean ====
module

public import proofs.«01_k».proof.Proof.Block
public import Idealize.ShloMosaic.Lib.Claim

@[expose] public section

noncomputable section

namespace Cert.FuelTable

open Idealize.ShloMosaic Idealize.ShloMosaic.TcCoe Cert.KernelIdeal Cert.KernelIdeal.Gen

/-- Column `k` of the shifted table: the table's first row for `k = 0`, row `k` less the first row for every other. -/
def shifted (emb : FVec Ideal S13x128 .f32) (d : Fin 128) (k : Fin 13) : EReal :=
  if k = 0 then emb (ix2 0 d) else emb (ix2 k d) - emb (ix2 0 d)

/-- The host lines before the kernel, composed: first row, the other rows less it, joined, transposed. -/
def table (emb : FVec Ideal S13x128 .f32) : FVec Ideal S128x13 .f32 :=
  transpose S128x13 [1, 0]
    (concatenate S13x128 0
      [⟨S1x128, extractStridedSlice S1x128 ![0, 0] emb slices_S13x128_S1x128_0_0⟩,
        ⟨S12x128, subf (extractStridedSlice S12x128 ![1, 0] emb slices_S13x128_S12x128_1_0)
          (broadcastInDim S12x128 ![0, 1] bcast_S1x128_S12x128_0_1
            (extractStridedSlice S1x128 ![0, 0] emb slices_S13x128_S1x128_0_0))⟩]
      concatenates_S1x128_S12x128_S13x128_d0)
    transposes_S13x128_S128x13_1_0

/-- That table at an entry. -/
theorem table_apply (emb : FVec Ideal S13x128 .f32) (d : Fin 128) (k : Fin 13) :
    table emb (ix2 d k) = shifted emb d k := by
  unfold table shifted
  pointwise
  fin_cases k <;> rfl

/-- The array the second window reads holds that table when the kernel starts. -/
theorem entry_table (m : (ℓ : Loc nD τ sig) → Buf (Elt Ideal) ℓ) (c : Dev nD) :
    V m c main_call0_v5 = table (m ((c : Thread nD τ).loc main_arg1)) := by
  entry_read
  rfl

end Cert.FuelTable
-- ==== Proof.Array.lean ====
module

public import proofs.«01_k».proof.Proof.Table
public import Idealize.ShloMosaic.Lib.Pipeline.Value
public import Idealize.ShloMosaic.Lib.Pipeline.ValueKit.Basic

@[expose] public section

noncomputable section

namespace Cert.FuelArray

open Idealize.ShloMosaic Idealize.ShloMosaic.TcCoe Idealize.SL.Sem Cert.KernelIdeal Cert.KernelIdeal.Gen
open Cert.FuelBlock Cert.FuelTable
open Idealize.ShloMosaic.Pipeline (Dat)

variable (m : (ℓ : Loc nD τ sig) → Buf (Elt Ideal) ℓ) (ρ : Dev nD → PrngReg)

/-- What the kernel's result array holds at cell `(b, y, x)` and column `d`. -/
def blended (cat : IVec S8x256x256 32) (emb : FVec Ideal S13x128 .f32) : FVec Ideal S8x128x256x256 .f32 := fun i =>
  ∑ k : Fin 13, shifted emb (i 1) k * weight (cat (ix3 (i 0) (i 2) (i 3))) k

/-- Over the grid's points the cells' block moves with the result's, and the table's block stays. -/
theorem maps : ∀ t : Fin grid0.N,
    win0_0.index t (0 : Fin 3) = win0_2.index t (0 : Fin 4) ∧ win0_0.index t (1 : Fin 3) = win0_2.index t (2 : Fin 4)
      ∧ win0_0.index t (2 : Fin 3) = 0 ∧ win0_1.index t (0 : Fin 2) = 0 ∧ win0_1.index t (1 : Fin 2) = 0
      ∧ win0_2.index t (1 : Fin 4) = 0 ∧ win0_2.index t (3 : Fin 4) = 0 := by decide +kernel

/-- Every pair of a batch and a band of 64 rows is some grid point's. -/
theorem reached : ∀ (b : Fin 8) (h : Fin 4), ∃ t : Fin grid0.N,
    win0_2.index t (0 : Fin 4) = b.val ∧ win0_2.index t (2 : Fin 4) = h.val := by decide +kernel

/-- The cell that the result's block has at `(0, d, r, w)`. -/
abbrev cellAt (t : Fin grid0.N) (d : Fin 128) (r : Fin 64) (w : Fin 256) : S8x256x256.Idx :=
  let i : S8x128x256x256.Idx := (win0_2.rect t).emb (ix4 0 d r w)
  ix3 (i 0) (i 2) (i 3)

/-- The cells' block at point `t`, read at `(0, r, w)`: the cell the result's block has at `(0, d, r, w)`. -/
theorem cells_block (c : Dev nD) (t : Fin cfg0.N) (d : Fin 128) (r : Fin 64) (w : Fin 256) :
    iblk m c 0 t (ix3 0 r w) = (m ((c : Thread nD τ).loc main_arg0) : IVec S8x256x256 32) (cellAt t d r w) := by
  obtain ⟨h0, h1, h2, -, -, -, h3⟩ := maps t
  show V m c main_arg0 ((win0_0.rect t).emb (ix3 0 r w)) = _
  rw [V_main_arg0]
  refine congrArg _ (funext fun a => Fin.ext ?_)
  refine (Pipeline.Window.rect_emb_val win0_0 t _ a).trans ?_
  match a with
  | ⟨0, _⟩ => exact (congrArg (· * 1 + 0) h0).trans (Pipeline.Window.rect_emb_val win0_2 t (ix4 0 d r w) 0).symm
  | ⟨1, _⟩ => exact (congrArg (· * 64 + r.val) h1).trans (Pipeline.Window.rect_emb_val win0_2 t (ix4 0 d r w) 2).symm
  | ⟨2, _⟩ =>
    exact (congrArg (· * 256 + w.val) (h2.trans h3.symm)).trans
      (Pipeline.Window.rect_emb_val win0_2 t (ix4 0 d r w) 3).symm

/-- The table's block at any point is the whole shifted table. -/
theorem table_block (c : Dev nD) (t : Fin cfg0.N) (d : Fin 128) (k : Fin 13) :
    iblk m c 1 t (ix2 d k) = shifted (m ((c : Thread nD τ).loc main_arg1)) d k := by
  obtain ⟨-, -, -, h0, h1, -, -⟩ := maps t
  show V m c main_call0_v5 ((win0_1.rect t).emb (ix2 d k)) = _
  rw [entry_table, ← table_apply]
  refine congrArg _ (funext fun a => Fin.ext ?_)
  match a with
  | ⟨0, _⟩ => exact Pipeline.Window.rect_emb_val_of_index_zero _ t _ h0 _
  | ⟨1, _⟩ => exact Pipeline.Window.rect_emb_val_of_index_zero _ t _ h1 _

/-- What point `t` writes back is its block of the blended array. -/
theorem flushed_eq (c : Dev nD) (t : Fin cfg0.N) :
    (dats m 0 c).flushed 2 t = (win0_2.blk t).view.read (Elt Ideal)
      (blended (m ((c : Thread nD τ).loc main_arg0)) (m ((c : Thread nD τ).loc main_arg1))) := by
  rw [Value.flushed2]
  funext j
  obtain ⟨z, d, r, w, rfl⟩ : ∃ (z : Fin 1) (d : Fin 128) (r : Fin 64) (w : Fin 256), j = ix4 z d r w :=
    ⟨j 0, j 1, j 2, j 3, funext fun a => by match a with | ⟨0, _⟩ => rfl | ⟨1, _⟩ => rfl | ⟨2, _⟩ => rfl | ⟨3, _⟩ => rfl⟩
  obtain rfl : z = 0 := Subsingleton.elim _ _
  show out0_2 (iblk m c 0 t) (iblk m c 1 t) (ix4 0 d r w)
    = blended (m ((c : Thread nD τ).loc main_arg0)) (m ((c : Thread nD τ).loc main_arg1)) ((win0_2.rect t).emb (ix4 0 d r w))
  rw [block_apply, cells_block m c t d r w]
  unfold blended
  have hd : (win0_2.rect t).emb (ix4 0 d r w) 1 = d :=
    Fin.ext (Pipeline.Window.rect_emb_val_of_index_zero _ t _ (maps t).2.2.2.2.2.1 _)
  rw [hd]
  exact Finset.sum_congr rfl fun k _ => by rw [table_block]

/-- The blocks fill the result array. -/
theorem cover (i : S8x128x256x256.Idx) :
    ∃ t : Fin cfg0.N, (cfg0.win 2).flush t = true ∧ i ∈ ((cfg0.win 2).blk t).view.set := by
  have hi0 : (i 0 : Nat) < 8 := (i 0).isLt
  have hi1 : (i 1 : Nat) < 128 := (i 1).isLt
  have hi2 : (i 2 : Nat) < 256 := (i 2).isLt
  have hi3 : (i 3 : Nat) < 256 := (i 3).isLt
  obtain ⟨t, h0, h2⟩ := reached ⟨i 0, hi0⟩ ⟨(i 2 : Nat) / 64, by omega⟩
  obtain ⟨-, -, -, -, -, h1, h3⟩ := maps t
  refine ⟨t, flush0_2 t, ?_⟩
  show i ∈ ((View.whole main_v0).slice (win0_2.rect t)).set
  rw [View.set_slice_whole, Pipeline.Window.mem_rect_iff win0_2 t i]
  intro a
  match a with
  | ⟨0, _⟩ => show win0_2.index t (0 : Fin 4) * 1 ≤ (i 0 : Nat) ∧ (i 0 : Nat) < win0_2.index t (0 : Fin 4) * 1 + 1
              rw [h0]; dsimp only; omega
  | ⟨1, _⟩ => show win0_2.index t (1 : Fin 4) * 128 ≤ (i 1 : Nat) ∧ (i 1 : Nat) < win0_2.index t (1 : Fin 4) * 128 + 128
              rw [h1]; omega
  | ⟨2, _⟩ => show win0_2.index t (2 : Fin 4) * 64 ≤ (i 2 : Nat) ∧ (i 2 : Nat) < win0_2.index t (2 : Fin 4) * 64 + 64
              rw [h2]; dsimp only; omega
  | ⟨3, _⟩ => show win0_2.index t (3 : Fin 4) * 256 ≤ (i 3 : Nat) ∧ (i 3 : Nat) < win0_2.index t (3 : Fin 4) * 256 + 256
              rw [h3]; omega

/-- The result array after the run is the blended array. -/
theorem final (c : Dev nD) : (dats m 0 c).arrAt 2 cfg0.N
    = blended (m ((c : Thread nD τ).loc main_arg0)) (m ((c : Thread nD τ).loc main_arg1)) :=
  (dats m 0 c).arrAt_eq_of_cover 2 _ (fun t _ => flushed_eq m c t) cover

/-- The kernel's run: it ends, its result array is the blended array of the arguments, the arguments are unchanged. -/
theorem run : θ_run defs (onTc (τ := τ) (main (F := Ideal))) ⟨m, fun _ => 0, ρ⟩ fun r => ∀ c : Dev nD,
      r.2.mem ((c : Thread nD τ).loc main_v0)
          = blended (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun r h c => ⟨(h c).1.trans (final m c), (h c).2⟩) (Value.run_blocks m ρ)

end Cert.FuelArray
-- ==== Proof.RefRun.lean ====
module

public import proofs.«01_k».proof.Proof.Gen.ReferenceIdeal
public import Idealize.ShloMosaic.Lib.StableHlo.Run
public import Idealize.ShloMosaic.PureOps.Ideal
public import Idealize.ShloMosaic.Adequacy

@[expose] public section

noncomputable section

namespace Cert.FuelRef

open Idealize.ShloMosaic Idealize.ShloMosaic.TcCoe Idealize.ShloMosaic.StableHlo Idealize.SL.Sem Cert.ReferenceIdeal Cert.ReferenceIdeal.Gen

/-- Entry `(b, y, x, k)` is 1 where the cell's word is the `k`-th code, 0 elsewhere. -/
def mask (cat : IVec S8x256x256 32) : IVec S8x256x256x13 32 :=
  extui 32
    (cmpi .eq
      (broadcastInDim S8x256x256x13 ![0, 1, 2, 3] bcast_S8x256x256x1_S8x256x256x13_0_1_2_3
        (broadcastInDim S8x256x256x1 ![0, 1, 2] bcast_S8x256x256_S8x256x256x1_0_1_2 cat))
      (broadcastInDim S8x256x256x13 ![0, 1, 2, 3] bcast_S1x1x1x13_S8x256x256x13_0_1_2_3
        (broadcastInDim S1x1x1x13 ![3] bcast_S13_S1x1x1x13_3 (fun i => lit0 (S13.rowMajor i)))))
    natLt_1_32

/-- The position of the mask's largest entry along its last axis, the first where several are equal. -/
def found (cat : IVec S8x256x256 32) : IVec S8x256x256 32 := fun j =>
  (Host.reduce2 reducer_argmax_i32_i32 (mask cat) (iotaInDim S8x256x256x13 32 3) (constantI S_ 32 2147483648#32)
    (constantI S_ 32 0#32) reducesTo_S8x256x256x13_S8x256x256_d3 h_S_ j).2

/-- The row numbers the lookup starts from: a negative position counted from the end, a last axis of one added. -/
def start (p : IVec S8x256x256 32) : IVec S8x256x256x1 32 :=
  broadcastInDim S8x256x256x1 ![0, 1, 2] bcast_S8x256x256_S8x256x256x1_0_1_2
    (select (cmpi .slt p (broadcastInDim S8x256x256 ![] bcast_S_S8x256x256 (constantI S_ 32 0#32)))
      (addi p (broadcastInDim S8x256x256 ![] bcast_S_S8x256x256 (constantI S_ 32 13#32))) p)

/-- Whether each row number lies between 0 and 12. -/
def inside (s : IVec S8x256x256x1 32) : IVec S8x256x256 1 :=
  Host.reduce IntOp.andi
    (andi (cmpi .sge s (broadcastInDim S8x256x256x1 ![] bcast_S_S8x256x256x1 (constantI S_ 32 0#32)))
      (cmpi .sle s (broadcastInDim S8x256x256x1 ![0, 1, 2, 3] bcast_S1x1x1x1_S8x256x256x1_0_1_2_3
        (broadcastInDim S1x1x1x1 ![3] bcast_S1_S1x1x1x1_3 (constantI S1 32 12#32)))))
    (constantI S_ 1 1#1) reducesTo_S8x256x256x1_S8x256x256_d3 h_S_

/-- The table's rows at the row numbers, and a filler where a row number is outside the table. -/
def taken (emb : FVec Ideal S13x128 .f32) (s : IVec S8x256x256x1 32) : FVec Ideal S8x256x256x128 .f32 :=
  select (broadcastInDim S8x256x256x128 ![0, 1, 2] bcast_S8x256x256_S8x256x256x128_0_1_2 (inside s))
    (Host.gather gather_S13x128_S8x256x256x1_S8x256x256x128_3_0_n_n_0_3_1128 emb s)
    (broadcastInDim S8x256x256x128 ![] bcast_S_S8x256x256x128 (constant S_ .f32 0x7FC00000#32))

/-- What the reference computes of its two arguments. -/
def result (cat : IVec S8x256x256 32) (emb : FVec Ideal S13x128 .f32) : FVec Ideal S8x128x256x256 .f32 :=
  transpose S8x128x256x256 [0, 3, 1, 2] (taken emb (start (found cat)))
    transposes_S8x256x256x128_S8x128x256x256_0_3_1_2

/-- The reference's operations in order, the three outlined functions' bodies in place of their calls. -/
abbrev ops : List (HloOp τ sig (Elt Ideal)) :=
  [ nullary main_c (fun i => lit0 (S13.rowMajor i)),
    unary main_arg0 main_v0 (broadcastInDim S8x256x256x1 ![0, 1, 2] bcast_S8x256x256_S8x256x256x1_0_1_2),
    unary main_c main_v1 (broadcastInDim S1x1x1x13 ![3] bcast_S13_S1x1x1x13_3),
    unary main_v0 main_v2 (broadcastInDim S8x256x256x13 ![0, 1, 2, 3] bcast_S8x256x256x1_S8x256x256x13_0_1_2_3),
    unary main_v1 main_v3 (broadcastInDim S8x256x256x13 ![0, 1, 2, 3] bcast_S1x1x1x13_S8x256x256x13_0_1_2_3),
    binary main_v2 main_v3 main_v4 (cmpi .eq),
    unary main_v4 main_v5 (extui 32 · natLt_1_32),
    TRef.nullary main_call0.v0 (iotaInDim S8x256x256x13 32 3),
    TRef.nullary main_call0.c (constantI S_ 32 2147483648#32),
    TRef.nullary main_call0.c_0 (constantI S_ 32 0#32),
    TRef.quaternary (.of main_v5) main_call0.v0 main_call0.c main_call0.c_0 main_call0.v1_0 (fun x y u v j => (Host.reduce2 reducer_argmax_i32_i32 x y u v reducesTo_S8x256x256x13_S8x256x256_d3 h_S_ j).1),
    TRef.quaternary (.of main_v5) main_call0.v0 main_call0.c main_call0.c_0 main_call0.v1_1 (fun x y u v j => (Host.reduce2 reducer_argmax_i32_i32 x y u v reducesTo_S8x256x256x13_S8x256x256_d3 h_S_ j).2),
    TRef.nullary main_call1.c (constantI S_ 32 0#32),
    TRef.unary main_call1.c main_call1.v0 (broadcastInDim S8x256x256 ![] bcast_S_S8x256x256),
    TRef.binary (.of main_v6) main_call1.v0 main_call1.v1 (cmpi .slt),
    TRef.nullary main_call1.c_0 (constantI S_ 32 13#32),
    TRef.unary main_call1.c_0 main_call1.v2 (broadcastInDim S8x256x256 ![] bcast_S_S8x256x256),
    TRef.binary (.of main_v6) main_call1.v2 main_call1.v3 addi,
    TRef.ternary main_call1.v1 main_call1.v3 (.of main_v6) main_call1.call0.v0 select,
    TRef.unary main_call1.call0.v0 main_call1.v5 (broadcastInDim S8x256x256x1 ![0, 1, 2] bcast_S8x256x256_S8x256x256x1_0_1_2),
    TRef.nullary main_call1.c_1 (constantI S1 32 12#32),
    TRef.nullary main_call1.c_2 (constantI S_ 32 0#32),
    TRef.unary main_call1.c_2 main_call1.v6 (broadcastInDim S8x256x256x1 ![] bcast_S_S8x256x256x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S8x256x256x1 ![0, 1, 2, 3] bcast_S1x1x1x1_S8x256x256x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x256x256x1_S8x256x256_d3 h_S_),
    TRef.binary (.of main_arg1) main_call1.v5 main_call1.v13 (fun x i => Host.gather gather_S13x128_S8x256x256x1_S8x256x256x128_3_0_n_n_0_3_1128 x i),
    TRef.unary main_call1.v12 main_call1.v14 (broadcastInDim S8x256x256x128 ![0, 1, 2] bcast_S8x256x256_S8x256x256x128_0_1_2),
    TRef.nullary main_call1.cst (constant (F := Ideal) S_ .f32 0x7FC00000#32),
    TRef.unary main_call1.cst main_call1.v15 (broadcastInDim S8x256x256x128 ![] bcast_S_S8x256x256x128),
    TRef.ternary main_call1.v14 main_call1.v13 main_call1.v15 main_call1.v16 select,
    unary main_v7 main_v8 (transpose S8x128x256x256 [0, 3, 1, 2] · transposes_S8x256x256x128_S8x128x256x256_0_3_1_2) ]

/-- The printed program is that straight line. -/
theorem main_line (c : Dev nD) : main (F := Ideal) c = seq ops := by
  simp only [main, fn_argmax.body, fn_where.body, fn_take.body, seq, bind_assoc, pure_bind]
  rfl

/-- The operations composed at the result's array. -/
theorem line_result (V : Valuation τ sig (Elt Ideal)) :
    after ops V (main_v8 : DevRef τ sig) = result (V (main_arg0 : DevRef τ sig)) (V (main_arg1 : DevRef τ sig)) := by
  after_results_simp
  simp -implicitDefEqProofs only [TRef.toBuf, TRef.ofBuf, cast_cast, cast_eq]
  rfl

/-- No operation writes the first argument. -/
theorem line_arg0 (V : Valuation τ sig (Elt Ideal)) :
    after ops V (main_arg0 : DevRef τ sig) = V (main_arg0 : DevRef τ sig) := by
  simp only [after_cons, after_nil]
  rfl

/-- No operation writes the second argument. -/
theorem line_arg1 (V : Valuation τ sig (Elt Ideal)) :
    after ops V (main_arg1 : DevRef τ sig) = V (main_arg1 : DevRef τ sig) := by
  simp only [after_cons, after_nil]
  rfl

/-- Every operation touches arrays of the program's own only. -/
theorem line_within : (ops : List (HloOp τ sig (Elt Ideal))).Forall fun op => op.bufs ⊆ tcRefs τ sig :=
  ⟨nullary_bufs_sub .., unary_bufs_sub .., unary_bufs_sub .., unary_bufs_sub .., unary_bufs_sub .., binary_bufs_sub ..,
    unary_bufs_sub .., nullary_bufs_sub .., nullary_bufs_sub .., nullary_bufs_sub .., quaternary_bufs_sub ..,
    quaternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub ..⟩

/-- The reference's run: it ends, its result array holds `result` of the arguments, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun r h c => ⟨(h c main_v8).trans (line_result _), (h c main_arg0).trans (line_arg0 _),
      (h c main_arg1).trans (line_arg1 _)⟩)
    (run_seq (by decide) (by decide) defs main (fun _ => ops) main_line (fun _ => line_within) m ρ)

end Cert.FuelRef
-- ==== Proof.RefValue.lean ====
module

public import proofs.«01_k».proof.Proof.RefRun
public import Idealize.ShloMosaic.Lib.Pointwise

@[expose] public section

noncomputable section

namespace Cert.FuelRef

open Idealize.ShloMosaic Cert.ReferenceIdeal Cert.ReferenceIdeal.Gen

/-- The mask's entry: 1 where the cell's word is the `k`-th code, 0 elsewhere. -/
theorem mask_apply (cat : IVec S8x256x256 32) (b : Fin 8) (y x : Fin 256) (k : Fin 13) :
    mask cat (ix4 b y x k) = if cat (ix3 b y x) = lit0 k then 1#32 else 0#32 := by
  unfold mask
  pointwise
  rw [show S13.rowMajor (ix1 k) = k from Fin.ext (by fin_cases k <;> rfl)]
  by_cases h : cat (ix3 b y x) = lit0 k
  · rw [if_pos h, IntOp.cmpi, h]; simp
  · rw [if_neg h, IntOp.cmpi, show (cat (ix3 b y x) == lit0 k) = false from beq_eq_false_iff_ne.2 h]; simp

/-- A position between 0 and 12 is its own row number. -/
theorem start_apply (p : IVec S8x256x256 32) (b : Fin 8) (y x : Fin 256) (k : Fin 13)
    (h : p (ix3 b y x) = BitVec.ofNat 32 k.val) : start p (ix4 b y x 0) = BitVec.ofNat 32 k.val := by
  unfold start
  pointwise
  rw [h]
  fin_cases k <;> rfl

/-- A row number between 0 and 12 is inside the table. -/
theorem inside_apply (s : IVec S8x256x256x1 32) (b : Fin 8) (y x : Fin 256) (k : Fin 13)
    (h : s (ix4 b y x 0) = BitVec.ofNat 32 k.val) : inside s (ix3 b y x) = 1#1 := by
  unfold inside
  pointwise
  rw [show (Finset.univ : Finset (Fin 1)) = {0} from rfl, Finset.fold_singleton]
  rw [h]
  fin_cases k <;> rfl

/-- The lookup at a row number between 0 and 12 is that row of the table. -/
theorem gather_apply (emb : FVec Ideal S13x128 .f32) (s : IVec S8x256x256x1 32) (b : Fin 8) (y x : Fin 256)
    (d : Fin 128) (k : Fin 13) (h : s (ix4 b y x 0) = BitVec.ofNat 32 k.val) :
    Host.gather gather_S13x128_S8x256x256x1_S8x256x256x128_3_0_n_n_0_3_1128 emb s (ix4 b y x d) = emb (ix2 k d) := by
  unfold Host.gather
  refine congrArg emb (funext fun a => Fin.ext ?_)
  let g := gather_S13x128_S8x256x256x1_S8x256x256x128_3_0_n_n_0_3_1128
  show g.start (ix4 b y x d) s a + g.batchCoord (ix4 b y x d) a + g.offCoord (ix4 b y x d) a = _
  rw [g.batchCoord_eq_zero _ _ List.not_mem_nil]
  match a with
  | ⟨0, _⟩ =>
    have ho : g.offCoord (ix4 b y x d) (0 : Fin 2) = 0 :=
      g.offCoord_eq_zero _ _ fun hk => ((g.mem_sKept _).1 hk).1 (List.mem_singleton.2 rfl)
    refine (congrArg (_ + 0 + ·) ho).trans ?_
    unfold GatherDims.start
    have hm : (0 : Fin 2) ∈ g.startIndexMap := List.mem_singleton.2 rfl
    have hi : g.siIdx (ix4 b y x d) ⟨g.startIndexMap.idxOf (0 : Fin 2), List.idxOf_lt_length_iff.2 hm⟩ = ix4 b y x 0 := by
      funext e
      match e with
      | ⟨0, _⟩ => rfl
      | ⟨1, _⟩ => rfl
      | ⟨2, _⟩ => rfl
      | ⟨3, _⟩ => rfl
    have hs : s (g.siIdx (ix4 b y x d) ⟨g.startIndexMap.idxOf (0 : Fin 2), List.idxOf_lt_length_iff.2 hm⟩)
        = BitVec.ofNat 32 k.val := (congrArg s hi).trans h
    refine (congrArg (· + 0 + 0) ((dif_pos hm).trans (congrArg (fun v : BitVec 32 => min v.toInt.toNat 12) hs))).trans ?_
    show min (BitVec.ofNat 32 k.val).toInt.toNat 12 + 0 + 0 = k.val
    fin_cases k <;> rfl
  | ⟨1, _⟩ =>
    have hm : (1 : Fin 2) ∉ g.startIndexMap := by decide
    refine (congrArg (· + 0 + _) (dif_neg hm)).trans ?_
    show 0 + 0 + d.val = d.val
    omega

/-- The reference's entry, from the position found at the cell: that row of the table. -/
theorem result_apply (cat : IVec S8x256x256 32) (emb : FVec Ideal S13x128 .f32) (b : Fin 8) (d : Fin 128)
    (y x : Fin 256) (k : Fin 13) (h : found cat (ix3 b y x) = BitVec.ofNat 32 k.val) :
    result cat emb (ix4 b d y x) = emb (ix2 k d) := by
  have hs := start_apply (found cat) b y x k h
  unfold result taken
  pointwise
  rw [inside_apply _ b y x k hs, gather_apply emb _ b y x d k hs]
  rfl

end Cert.FuelRef
-- ==== Proof.Found.lean ====
module

public import proofs.«01_k».proof.Proof.RefValue

@[expose] public section

noncomputable section

namespace Cert.FuelRef

open Idealize.ShloMosaic Cert.ReferenceIdeal Cert.ReferenceIdeal.Gen

/-- `r` is at least as good as `p`: a larger value, or the same value at a position no later. -/
def AtLeast (r p : BitVec 32 × BitVec 32) : Prop :=
  p.1.toInt < r.1.toInt ∨ p.1.toInt = r.1.toInt ∧ r.2.toInt ≤ p.2.toInt

/-- A pair is at least as good as itself. -/
theorem AtLeast.refl (p : BitVec 32 × BitVec 32) : AtLeast p p := Or.inr ⟨rfl, le_rfl⟩

/-- Being at least as good carries over along a chain. -/
theorem AtLeast.trans {r p q : BitVec 32 × BitVec 32} (h : AtLeast r p) (h' : AtLeast p q) : AtLeast r q := by
  unfold AtLeast at *; omega

/-- One step of the search keeps the better of its two pairs. -/
theorem step (a b : BitVec 32 × BitVec 32) :
    (reducer_argmax_i32_i32 a b = a ∧ AtLeast a b) ∨ (reducer_argmax_i32_i32 a b = b ∧ AtLeast b a) := by
  obtain ⟨a1, a2⟩ := a
  obtain ⟨b1, b2⟩ := b
  unfold AtLeast
  by_cases h1 : b1.toInt < a1.toInt
  · refine Or.inl ⟨?_, Or.inl h1⟩
    have h2 : (a1 == b1) = false := beq_eq_false_iff_ne.2 fun e => by rw [e] at h1; exact lt_irrefl _ h1
    simp [reducer_argmax_i32_i32, IntOp.cmpi, IntOp.ori, IntOp.andi, Scalar.select, BitVec.slt, h1, h2]
  · by_cases h2 : a1 = b1
    · subst h2
      by_cases h3 : a2.toInt < b2.toInt
      · refine Or.inl ⟨?_, Or.inr ⟨rfl, h3.le⟩⟩
        simp [reducer_argmax_i32_i32, IntOp.cmpi, IntOp.ori, IntOp.andi, Scalar.select, BitVec.slt, h3]
      · refine Or.inr ⟨?_, Or.inr ⟨rfl, not_lt.1 h3⟩⟩
        simp [reducer_argmax_i32_i32, IntOp.cmpi, IntOp.ori, IntOp.andi, Scalar.select, BitVec.slt, h3]
    · have h4 : a1.toInt ≠ b1.toInt := fun e => h2 (BitVec.eq_of_toInt_eq e)
      refine Or.inr ⟨?_, Or.inl (show a1.toInt < b1.toInt by omega)⟩
      have h5 : (a1 == b1) = false := beq_eq_false_iff_ne.2 h2
      simp [reducer_argmax_i32_i32, IntOp.cmpi, IntOp.ori, IntOp.andi, Scalar.select, BitVec.slt, h1, h5]

/-- The whole search ends at its initial pair or a pair of the list, at least as good as each of them. -/
theorem search (l : List (BitVec 32 × BitVec 32)) (init : BitVec 32 × BitVec 32) :
    (l.foldl reducer_argmax_i32_i32 init = init ∨ l.foldl reducer_argmax_i32_i32 init ∈ l)
      ∧ AtLeast (l.foldl reducer_argmax_i32_i32 init) init
      ∧ ∀ p ∈ l, AtLeast (l.foldl reducer_argmax_i32_i32 init) p := by
  induction l generalizing init with
  | nil => exact ⟨Or.inl rfl, AtLeast.refl _, fun p h => nomatch h⟩
  | cons q l ih =>
    obtain ⟨hm, hi, hl⟩ := ih (reducer_argmax_i32_i32 init q)
    rw [List.foldl_cons]
    generalize l.foldl reducer_argmax_i32_i32 (reducer_argmax_i32_i32 init q) = r at *
    have key : AtLeast r init ∧ AtLeast r q := by
      rcases step init q with ⟨e, h⟩ | ⟨e, h⟩ <;> rw [e] at hi
      · exact ⟨hi, hi.trans h⟩
      · exact ⟨hi.trans h, hi⟩
    refine ⟨?_, key.1, fun p hp => ?_⟩
    · rcases hm with hm | hm
      · rcases step init q with ⟨e, -⟩ | ⟨e, -⟩
        · exact Or.inl (hm.trans e)
        · exact Or.inr (by rw [hm, e]; exact List.mem_cons_self)
      · exact Or.inr (List.mem_cons_of_mem _ hm)
    · rcases List.mem_cons.1 hp with rfl | hp
      · exact key.2
      · exact hl p hp

/-- The pair the search holds for the `k`-th code at a cell. -/
def pair (cat : IVec S8x256x256 32) (b : Fin 8) (y x : Fin 256) (k : Fin 13) : BitVec 32 × BitVec 32 :=
  (if cat (ix3 b y x) = lit0 k then 1#32 else 0#32, BitVec.ofNat 32 k.val)

/-- The pairs searched at a cell, of values `v` and positions `n`, are those along the last axis. -/
theorem mem_searched (v n : IVec S8x256x256x13 32) (b : Fin 8) (y x : Fin 256) (p : BitVec 32 × BitVec 32) :
    p ∈ Host.argReduceFiber v n reducesTo_S8x256x256x13_S8x256x256_d3 (ix3 b y x)
      ↔ ∃ k : Fin 13, p = (v (ix4 b y x k), n (ix4 b y x k)) := by
  have hdrop : ∀ i : S8x256x256x13.Idx, reducesTo_S8x256x256x13_S8x256x256_d3.drop i = ix3 (i 0) (i 1) (i 2) := fun i =>
    funext fun a => Fin.ext (by match a with | ⟨0, _⟩ => rfl | ⟨1, _⟩ => rfl | ⟨2, _⟩ => rfl)
  unfold Host.argReduceFiber
  simp only [List.mem_map, List.mem_filter, List.mem_finRange, true_and, decide_eq_true_eq]
  constructor
  · rintro ⟨l, hl, rfl⟩
    generalize S8x256x256x13.rowMajor.symm l = i at *
    rw [hdrop] at hl
    have h0 : i 0 = b := congrFun hl 0
    have h1 : i 1 = y := congrFun hl 1
    have h2 : i 2 = x := congrFun hl 2
    have hi : i = ix4 b y x (i 3) := funext fun a => by
      match a with | ⟨0, _⟩ => exact h0 | ⟨1, _⟩ => exact h1 | ⟨2, _⟩ => exact h2 | ⟨3, _⟩ => rfl
    exact ⟨i 3, congrArg (fun j => (v j, n j)) hi⟩
  · rintro ⟨k, rfl⟩
    refine ⟨S8x256x256x13.rowMajor (ix4 b y x k), ?_, ?_⟩
    · rw [Equiv.symm_apply_apply, hdrop]; rfl
    · rw [Equiv.symm_apply_apply]

/-- The search over values `v` and positions `n` ends at its initial pair or one of the cell's pairs, at least as good
as each of them. -/
theorem search_cell (v n : IVec S8x256x256x13 32) (i j : IVec S_ 32) (b : Fin 8) (y x : Fin 256)
    (r : BitVec 32 × BitVec 32)
    (hr : r = Host.reduce2 reducer_argmax_i32_i32 v n i j reducesTo_S8x256x256x13_S8x256x256_d3 h_S_ (ix3 b y x)) :
    (r = (i (Shape.Idx.first h_S_), j (Shape.Idx.first h_S_)) ∨ ∃ k, r = (v (ix4 b y x k), n (ix4 b y x k)))
      ∧ ∀ k, AtLeast r (v (ix4 b y x k), n (ix4 b y x k)) := by
  have he := hr.trans (Host.reduce2_eq_foldl_fiber _ _ _ _ _ _ _ _)
  obtain ⟨hm, -, hl⟩ := search (Host.argReduceFiber v n reducesTo_S8x256x256x13_S8x256x256_d3 (ix3 b y x))
    (i (Shape.Idx.first h_S_), j (Shape.Idx.first h_S_))
  rw [← he] at hm hl
  exact ⟨hm.imp id (mem_searched v n b y x r).1, fun k => hl _ ((mem_searched v n b y x _).2 ⟨k, rfl⟩)⟩

/-- The positions found, as the second halves of a search at each cell. -/
theorem found_def : found = fun cat j =>
    (Host.reduce2 reducer_argmax_i32_i32 (mask cat) (iotaInDim S8x256x256x13 32 3) (constantI S_ 32 2147483648#32)
      (constantI S_ 32 0#32) reducesTo_S8x256x256x13_S8x256x256_d3 h_S_ j).2 := rfl

/-- The position found at a cell is that of a pair which is the initial one or some code's, and at least as good as
each code's. -/
theorem found_best (cat : IVec S8x256x256 32) (b : Fin 8) (y x : Fin 256) :
    ∃ r : BitVec 32 × BitVec 32, r.2 = found cat (ix3 b y x)
      ∧ (r = (2147483648#32, 0#32) ∨ ∃ k, r = pair cat b y x k) ∧ ∀ k, AtLeast r (pair cat b y x k) := by
  have hp : ∀ k, (mask cat (ix4 b y x k), iotaInDim S8x256x256x13 32 3 (ix4 b y x k)) = pair cat b y x k := fun k =>
    Prod.ext (mask_apply cat b y x k) rfl
  rw [found_def]
  beta_reduce
  generalize hr : Host.reduce2 reducer_argmax_i32_i32 _ _ _ _ _ _ (ix3 b y x) = r
  obtain ⟨hm, hl⟩ := search_cell _ _ _ _ b y x r hr.symm
  refine ⟨r, rfl, hm.imp (fun h => h.trans rfl) ?_, fun k => ?_⟩
  · rintro ⟨k, h⟩
    exact ⟨k, h.trans (hp k)⟩
  · exact hp k ▸ hl k

/-- A position's word, read as a signed number, is the position. -/
theorem position_toInt : ∀ k : Fin 13, (BitVec.ofNat 32 k.val).toInt = k.val := by decide

/-- No code is listed twice. -/
theorem codes_distinct : ∀ k l : Fin 13, lit0 k = lit0 l → k = l := by decide

/-- The position found at a cell that holds the `k`-th code is `k`. -/
theorem found_code (cat : IVec S8x256x256 32) (b : Fin 8) (y x : Fin 256) (k : Fin 13)
    (h : cat (ix3 b y x) = lit0 k) : found cat (ix3 b y x) = BitVec.ofNat 32 k.val := by
  obtain ⟨r, he, hm, hl⟩ := found_best cat b y x
  have hk := hl k
  rw [← he]
  unfold pair at hk
  rw [if_pos h] at hk
  unfold AtLeast at hk
  rcases hm with rfl | ⟨l, rfl⟩
  · exact absurd (hk.imp id And.left) (show ¬((1#32).toInt < (2147483648#32).toInt ∨ (1#32).toInt = (2147483648#32).toInt) by
      decide)
  · by_cases hc : cat (ix3 b y x) = lit0 l
    · rw [codes_distinct k l (h.symm.trans hc)]; rfl
    · unfold pair at hk
      rw [if_neg hc] at hk
      exact absurd (hk.imp id And.left) (show ¬((1#32).toInt < (0#32).toInt ∨ (1#32).toInt = (0#32).toInt) by decide)

/-- The position found at a cell that holds none of the codes is 0. -/
theorem found_none (cat : IVec S8x256x256 32) (b : Fin 8) (y x : Fin 256)
    (h : ∀ k : Fin 13, cat (ix3 b y x) ≠ lit0 k) : found cat (ix3 b y x) = BitVec.ofNat 32 0 := by
  obtain ⟨r, he, hm, hl⟩ := found_best cat b y x
  rw [← he]
  rcases hm with rfl | ⟨l, rfl⟩
  · rfl
  · have hk := hl 0
    unfold pair AtLeast at hk
    rw [if_neg (h l), if_neg (h 0)] at hk
    rcases hk with hk | ⟨-, hk⟩
    · exact absurd hk (show ¬(0#32).toInt < (0#32).toInt by decide)
    · have h0 : (BitVec.ofNat 32 l.val).toInt ≤ (BitVec.ofNat 32 (0 : Fin 13).val).toInt := hk
      rw [position_toInt, position_toInt] at h0
      have : l.val = 0 := by simpa using h0
      show BitVec.ofNat 32 l.val = _
      rw [this]

end Cert.FuelRef
-- ==== Proof.Finite.lean ====
module

public import proofs.«01_k».proof.Proof.Gen.Pre_first_row_finite
public import Idealize.ShloMosaic.Lib.Pointwise
public import Idealize.ShloMosaic.Lib.ReduceAll
public import Idealize.ShloMosaic.PureOps.Ideal

@[expose] public section

noncomputable section

namespace Cert.FuelFinite

open Idealize.ShloMosaic Cert.Pre_first_row_finite Cert.Pre_first_row_finite.Gen

/-- The entries of a table's default row, as the precondition compares them with infinity. -/
def below (emb : FVec Ideal S13x128 .f32) : IVec S128 1 :=
  cmpf .olt (Host.absf (shapeCast S128 (extractStridedSlice S1x128 ![0, 0] emb slices_S13x128_S1x128_0_0)
    shapeCasts_S1x128_S128)) (broadcastInDim S128 ![] bcast_S_S128 (constant (F := Ideal) S_ .f32 0x7F800000#32))

/-- An extended real number whose absolute value is below infinity is real. -/
theorem real_of_abs_lt (e : EReal) (h : max e (-e) < ⊤) : e ≠ ⊤ ∧ e ≠ ⊥ := by
  constructor <;> rintro rfl <;> simp at h

/-- Where that comparison is true the entry is a real number. -/
theorem below_apply (emb : FVec Ideal S13x128 .f32) (d : Fin 128) (h : below emb (ix1 d) = 1#1) :
    emb (ix2 0 d) ≠ ⊤ ∧ emb (ix2 0 d) ≠ ⊥ := by
  have htop : Ideal.ofBits .f32 0x7F800000#32 = ⊤ := by simp [Ideal.ofBits, Ideal.ieee]
  revert h
  unfold below
  pointwise
  rw [htop, Ideal.absf_def]
  intro h
  refine real_of_abs_lt _ ?_
  by_contra hn
  rw [decide_eq_false hn] at h
  exact absurd h (by decide)

/-- Under the precondition each entry of the table's default row is a real number. -/
theorem finite (cat : IVec S8x256x256 32) (emb : FVec Ideal S13x128 .f32)
    (h : Cert.Pre_first_row_finite.fn (F := Ideal) cat emb = fun _ => 1#1) (d : Fin 128) :
    emb (ix2 0 d) ≠ ⊤ ∧ emb (ix2 0 d) ≠ ⊥ := by
  haveI : Subsingleton S_.Idx := ⟨fun a b => funext fun i => i.elim0⟩
  exact below_apply emb d (Host.reduce_andi_all (below emb) (constantI S_ 1 1#1) reducesTo_S128_S_d0 h_S_
    (fun i => i.elim0) (congrFun h fun i => i.elim0) (ix1 d))

end Cert.FuelFinite
-- ==== Proof.Equation.lean ====
module

public import proofs.«01_k».proof.Proof.Array
public import proofs.«01_k».proof.Proof.Found
public import proofs.«01_k».proof.Proof.Finite

@[expose] public section

noncomputable section

namespace Cert.FuelEquation

open Idealize.ShloMosaic Cert.FuelBlock Cert.FuelTable Cert.FuelArray Cert.FuelRef

/-- The reference's codes are the kernel's. -/
theorem codes : ∀ k : Fin 13, Cert.ReferenceIdeal.lit0 k = code k := by decide

/-- The weight of any row but the first is 0 where the cell's word is not its code. -/
theorem weight_off (v : BitVec 32) (k : Fin 13) (hk : k ≠ 0) (hv : v ≠ code k) : weight v k = 0 :=
  if_neg fun h => h.elim hk hv

/-- A cell whose word is no code but perhaps the first one takes the first row alone. -/
theorem sum_first (s : Fin 13 → EReal) (v : BitVec 32) (hv : ∀ k, k ≠ 0 → v ≠ code k) :
    ∑ k, s k * weight v k = s 0 := by
  rw [Finset.sum_eq_single 0 (fun k _ hk => by rw [weight_off v k hk (hv k hk), mul_zero])
    fun h => absurd (Finset.mem_univ _) h]
  rw [show weight v 0 = 1 from if_pos (Or.inl rfl), mul_one]

/-- A cell whose word is a later code takes the first row and that code's row. -/
theorem sum_code (s : Fin 13 → EReal) (v : BitVec 32) (k : Fin 13) (hk : k ≠ 0) (hv : v = code k) :
    ∑ l, s l * weight v l = s 0 + s k := by
  rw [Fintype.sum_eq_add 0 k hk.symm fun l hl => by
    rw [weight_off v l hl.1 fun h => hl.2 (codes_distinct l k (by rw [codes, codes, ← h, hv])), mul_zero]]
  rw [show weight v 0 = 1 from if_pos (Or.inl rfl), show weight v k = 1 from if_pos (Or.inr hv), mul_one, mul_one]

/-- Adding back a real number that was subtracted gives the extended real one started from. -/
theorem add_back (a e : EReal) (ht : a ≠ ⊤) (hb : a ≠ ⊥) : a + (e - a) = e := by
  lift a to ℝ using ⟨ht, hb⟩
  induction e with
  | bot => rfl
  | top => rfl
  | coe x => rw [← EReal.coe_sub, ← EReal.coe_add, add_sub_cancel]

/-- Where the default row of the table is real, the kernel's array is the reference's. -/
theorem equal (cat : IVec Cert.ReferenceIdeal.S8x256x256 32) (emb : FVec Ideal Cert.ReferenceIdeal.S13x128 .f32)
    (h : ∀ d : Fin 128, emb (ix2 0 d) ≠ ⊤ ∧ emb (ix2 0 d) ≠ ⊥) : blended cat emb = result cat emb := by
  funext i
  obtain ⟨b, d, y, x, rfl⟩ : ∃ (b : Fin 8) (d : Fin 128) (y x : Fin 256), i = ix4 b d y x :=
    ⟨i 0, i 1, i 2, i 3, funext fun a => by
      match a with | ⟨0, _⟩ => rfl | ⟨1, _⟩ => rfl | ⟨2, _⟩ => rfl | ⟨3, _⟩ => rfl⟩
  show ∑ k : Fin 13, shifted emb d k * weight (cat (ix3 b y x)) k = _
  by_cases hc : ∃ k : Fin 13, k ≠ 0 ∧ cat (ix3 b y x) = code k
  · obtain ⟨k, hk, hv⟩ := hc
    rw [sum_code _ _ k hk hv, result_apply cat emb b d y x k (found_code cat b y x k (hv.trans (codes k).symm))]
    unfold shifted
    rw [if_pos rfl, if_neg hk]
    exact add_back _ _ (h d).1 (h d).2
  · have hn : ∀ k : Fin 13, k ≠ 0 → cat (ix3 b y x) ≠ code k := fun k hk hv => hc ⟨k, hk, hv⟩
    rw [sum_first _ _ hn, result_apply cat emb b d y x 0]
    · exact if_pos rfl
    · by_cases h0 : cat (ix3 b y x) = Cert.ReferenceIdeal.lit0 0
      · exact found_code cat b y x 0 h0
      · refine found_none cat b y x fun k hv => ?_
        by_cases hk : k = 0
        · exact h0 (hk ▸ hv)
        · exact hn k hk (hv.trans (codes k))

end Cert.FuelEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_first_row_finite
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs at the bit level and leaves its arguments unchanged. -/
theorem frame_kernel : Cert.quiescent_Kernel := fun m g _ => Cert.Kernel.Gen.frame m g

/-- The kernel runs at the ideal level and leaves its arguments unchanged. -/
theorem frame_kernel_ideal : Cert.quiescent_KernelIdeal := fun m g _ => Cert.KernelIdeal.Gen.frame m g

/-- The same where the default row of the table is finite. -/
theorem frame_kernel_finite : Cert.quiescent_KernelIdeal_pre_first_row_finite := fun m g _ =>
  Cert.KernelIdeal.Gen.frame m g

/-- The reference runs at the ideal level and leaves its arguments unchanged. -/
theorem frame_reference : Cert.quiescent_ReferenceIdeal := fun m g _ =>
  (θ_run Cert.ReferenceIdeal.defs _ _).mono
    (fun r h => ⟨fun c => (h c).2, sem_eq_zero_of_no_sems (by decide) r.2⟩) (Cert.FuelRef.run m g)

/-- The same where the default row of the table is finite. -/
theorem frame_reference_finite : Cert.quiescent_ReferenceIdeal_pre_first_row_finite := fun m g _ =>
  frame_reference m g trivial

/-- Nothing was rewritten between the two readings of the kernel. -/
theorem preserves : Cert.preserves_Kernel_KernelIdeal := trivial

/-- From equal arguments whose table has a finite default row, the kernel and the reference end with equal results. -/
theorem algebraic : Cert.algebraic_KernelIdeal_ReferenceIdeal_pre_first_row_finite := by
  intro m g m' g' hpre hagree
  refine ⟨fun c => Cert.FuelArray.blended
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.FuelArray.run m g, ?_⟩
  refine (θ_run Cert.ReferenceIdeal.defs _ _).mono (fun r h c => ⟨(h c).1.trans ?_, (h c).2⟩) (Cert.FuelRef.run m' g')
  rw [(hagree c).1, (hagree c).2]
  exact (Cert.FuelEquation.equal _ _ (Cert.FuelFinite.finite _ _ (hpre c))).symm

/-- Everything claimed of the kernel and its reference. -/
theorem claim : Cert.Claim :=
  ⟨Cert.Kernel.Gen.facts, Cert.KernelIdeal.Gen.facts, Cert.ReferenceIdeal.Gen.facts, Cert.Pre_first_row_finite.Gen.facts,
    frame_kernel, frame_kernel_ideal, frame_kernel_finite, frame_reference, frame_reference_finite, preserves, algebraic⟩

end Cert.Proof

end
